-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x7552 : Shape := ⟨3, ![24, 1, 7552]⟩
abbrev S16896x7552 : Shape := ⟨2, ![16896, 7552]⟩
abbrev S16896 : Shape := ⟨1, ![16896]⟩
abbrev S24x1x16896 : Shape := ⟨3, ![24, 1, 16896]⟩
abbrev S24x7552 : Shape := ⟨2, ![24, 7552]⟩
abbrev S16896x1 : Shape := ⟨2, ![16896, 1]⟩
abbrev S24x16896 : Shape := ⟨2, ![24, 16896]⟩
abbrev S512x7552 : Shape := ⟨2, ![512, 7552]⟩
abbrev S512x1 : Shape := ⟨2, ![512, 1]⟩
abbrev S24x512 : Shape := ⟨2, ![24, 512]⟩

abbrev nBuf : Space → Nat
  | .hbm => 9
  | .vmem => 9
  | .smem => 0
  | _ => 0

abbrev bufTy : (tb : Table) → Fin (tcTables nBuf tb) → BufTy
  | .hbm, ⟨0, _⟩ => ⟨S24x1x7552, .bf16⟩
  | .hbm, ⟨1, _⟩ => ⟨S16896x7552, .i8⟩
  | .hbm, ⟨2, _⟩ => ⟨S16896, .f32⟩
  | .hbm, ⟨3, _⟩ => ⟨S24x1x16896, .bf16⟩
  | .hbm, ⟨4, _⟩ => ⟨S24x7552, .bf16⟩
  | .hbm, ⟨5, _⟩ => ⟨S16896x1, .f32⟩
  | .hbm, ⟨6, _⟩ => ⟨S24x16896, .bf16⟩
  | .hbm, ⟨7, _⟩ => ⟨S24x16896, .bf16⟩
  | .hbm, ⟨8, _⟩ => ⟨S24x1x16896, .bf16⟩
  | .local _ .vmem, ⟨0, _⟩ => ⟨S24x7552, .bf16⟩
  | .local _ .vmem, ⟨1, _⟩ => ⟨S512x7552, .i8⟩
  | .local _ .vmem, ⟨2, _⟩ => ⟨S512x7552, .i8⟩
  | .local _ .vmem, ⟨3, _⟩ => ⟨S512x1, .f32⟩
  | .local _ .vmem, ⟨4, _⟩ => ⟨S512x1, .f32⟩
  | .local _ .vmem, ⟨5, _⟩ => ⟨S24x512, .bf16⟩
  | .local _ .vmem, ⟨6, _⟩ => ⟨S24x512, .bf16⟩
  | .local _ .vmem, ⟨7, _⟩ => ⟨S24x512, .bf16⟩
  | .local _ .vmem, ⟨8, _⟩ => ⟨S24x512, .bf16⟩
  | _, _ => ⟨S24x1x7552, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x7552 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7552 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x7552 : Shape := ⟨3, ![24, 1, 7552]⟩
abbrev S16896x7552 : Shape := ⟨2, ![16896, 7552]⟩
abbrev S16896 : Shape := ⟨1, ![16896]⟩
abbrev S24x1x16896 : Shape := ⟨3, ![24, 1, 16896]⟩
abbrev S16896x1 : Shape := ⟨2, ![16896, 1]⟩

abbrev nBuf : Space → Nat
  | .hbm => 5
  | .vmem => 5
  | .smem => 0
  | _ => 0

abbrev bufTy : (tb : Table) → Fin (tcTables nBuf tb) → BufTy
  | .hbm, ⟨0, _⟩ => ⟨S24x1x7552, .bf16⟩
  | .hbm, ⟨1, _⟩ => ⟨S16896x7552, .i8⟩
  | .hbm, ⟨2, _⟩ => ⟨S16896, .f32⟩
  | .hbm, ⟨3, _⟩ => ⟨S24x1x16896, .bf16⟩
  | .hbm, ⟨4, _⟩ => ⟨S24x1x16896, .bf16⟩
  | .local _ .vmem, ⟨0, _⟩ => ⟨S24x1x7552, .bf16⟩
  | .local _ .vmem, ⟨1, _⟩ => ⟨S16896x7552, .i8⟩
  | .local _ .vmem, ⟨2, _⟩ => ⟨S16896, .f32⟩
  | .local _ .vmem, ⟨3, _⟩ => ⟨S24x1x16896, .bf16⟩
  | .local _ .vmem, ⟨4, _⟩ => ⟨S24x1x16896, .bf16⟩
  | _, _ => ⟨S24x1x7552, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x1x7552 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16896x7552 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x16896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x16896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Layer.lean ====
/-
  What both programs compute, as one function of the arguments over the extended reals.
-/
module

public import Idealize.ShloMosaic.Lib.Pointwise

@[expose] public section

noncomputable section

namespace Cert.Proof

open Idealize.ShloMosaic Idealize.SL.Sem

/-- The linear layer with its residual over the extended reals, of the four argument arrays: the codes of output row `o`, each
    times the scale of that row, against the activations of token `b`, plus the residual at `(b, o)`. -/
def layer (x : Vec Ideal ⟨3, ![24, 1, 7552]⟩ .bf16) (w : Vec Ideal ⟨2, ![16896, 7552]⟩ .i8) (s : Vec Ideal ⟨1, ![16896]⟩ .f32)
    (r : Vec Ideal ⟨3, ![24, 1, 16896]⟩ .bf16) : Vec Ideal ⟨3, ![24, 1, 16896]⟩ .bf16 := fun i =>
  (∑ k : Fin 7552, x (ix3 (i 0) (i 1) k) * (FloatOps.sitofp (F := Ideal) .bf16 (w (ix2 (i 2) k)) * s (ix1 (i 2))) + r i : EReal)

end Cert.Proof

end
-- ==== Proof.KernelValue.lean ====
/-
  What the kernel computes: what one grid point writes, what the array holds after all of them, and the run with its value.
-/
module

public import proofs.«01_k».proof.Defs
public import proofs.«01_k».proof.Proof.Layer
public import proofs.«01_k».proof.Proof.Gen.KernelIdeal.Frame
public import Idealize.ShloMosaic.Lib.Claim
public import Idealize.ShloMosaic.Lib.Pipeline.Value

@[expose] public section

noncomputable section

namespace Cert.Proof.KernelValue

open Cert.KernelIdeal Cert.KernelIdeal.Gen
open Idealize.ShloMosaic Idealize.SL.Sem Idealize.ShloMosaic.TcCoe
open Idealize.ShloMosaic.Pipeline (Dat)

variable (m : (ℓ : Loc nD τ sig) → Buf (Elt Ideal) ℓ) (ρ : Dev nD → PrngReg)

/-- The layer at the shapes the region works on: activations and residual without the unit axis, the scales a column. -/
def layer2 (x : Vec Ideal S24x7552 .bf16) (w : Vec Ideal S16896x7552 .i8) (s : Vec Ideal S16896x1 .f32)
    (r : Vec Ideal S24x16896 .bf16) : Vec Ideal S24x16896 .bf16 := fun i =>
  (∑ k : Fin 7552, x (ix2 (i 0) k) * (FloatOps.sitofp (F := Ideal) .bf16 (w (ix2 (i 1) k)) * s (ix2 (i 1) 0)) + r i : EReal)

/-- A load or store at offset zero. -/
theorem hz : (![0, 0] : Fin 2 → Nat) = fun _ => 0 := funext fun a => by fin_cases a <;> rfl

/-- What one grid point leaves in its output block: the layer of the blocks it reads. -/
theorem out_apply (x0 : Vec Ideal S24x7552 .bf16) (x1 : Vec Ideal S512x7552 .i8) (x2 : Vec Ideal S512x1 .f32)
    (x3 : Vec Ideal S24x512 .bf16) (j : S24x512.Idx) : out0_4 (F := Ideal) x0 x1 x2 x3 j
      = (∑ k : Fin 7552, x0 (ix2 (j 0) k) * (FloatOps.sitofp (F := Ideal) .bf16 (x1 (ix2 (j 1) k)) * x2 (ix2 (j 1) 0))
          + x3 j : EReal) := by
  unfold out0_4
  rw [View.canon_unit_zero hz, View.ld_unit_zero (S := S512x1) hz, View.ld_unit_zero (S := S512x7552) hz,
    View.ld_unit_zero (S := S24x7552) hz, View.ld_unit_zero (S := S24x512) hz]
  pointwise [k0_pay1]

/-- Where each window's block lies at each point: the activations whole, the others block `t` of the output features. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The grid has 33 points. -/
theorem N_eq : cfg0.N = 33 := by decide +kernel

/-- The output feature that feature `j` of block `t` is. -/
def col (t : Fin cfg0.N) (j : Fin 512) : Fin 16896 :=
  ⟨t.val * 512 + j.val, by have := t.isLt; have := N_eq; omega⟩

/-! An index of a block, as an index of the array it is cut from. -/

theorem emb0 (t : Fin cfg0.N) (j : S24x7552.Idx) : ((cfg0.win 0).blk t).view.emb j = j := by
  obtain ⟨h0, h1, -⟩ := idx_facts t
  funext a; apply Fin.ext
  match a with
  | ⟨0, _⟩ => show win0_0.index t (0 : Fin 2) * 24 + 1 * (j 0).val = (j 0).val; omega
  | ⟨1, _⟩ => show win0_0.index t (1 : Fin 2) * 7552 + 1 * (j 1).val = (j 1).val; omega

theorem emb1 (t : Fin cfg0.N) (j : S512x7552.Idx) :
    ((cfg0.win 1).blk t).view.emb j = ix2 (n0 := 16896) (n1 := 7552) (col t (j 0)) (j 1) := by
  obtain ⟨-, -, h0, h1, -⟩ := idx_facts t
  funext a; apply Fin.ext
  match a with
  | ⟨0, _⟩ => show win0_1.index t (0 : Fin 2) * 512 + 1 * (j 0).val = t.val * 512 + (j 0).val; omega
  | ⟨1, _⟩ => show win0_1.index t (1 : Fin 2) * 7552 + 1 * (j 1).val = (j 1).val; omega

theorem emb2 (t : Fin cfg0.N) (j : S512x1.Idx) :
    ((cfg0.win 2).blk t).view.emb j = ix2 (n0 := 16896) (n1 := 1) (col t (j 0)) (j 1) := by
  obtain ⟨-, -, -, -, h0, h1, -⟩ := idx_facts t
  funext a; apply Fin.ext
  match a with
  | ⟨0, _⟩ => show win0_2.index t (0 : Fin 2) * 512 + 1 * (j 0).val = t.val * 512 + (j 0).val; omega
  | ⟨1, _⟩ => show win0_2.index t (1 : Fin 2) * 1 + 1 * (j 1).val = (j 1).val; omega

theorem emb3 (t : Fin cfg0.N) (j : S24x512.Idx) :
    ((cfg0.win 3).blk t).view.emb j = ix2 (n0 := 24) (n1 := 16896) (j 0) (col t (j 1)) := by
  obtain ⟨-, -, -, -, -, -, h0, h1, -⟩ := idx_facts t
  funext a; apply Fin.ext
  match a with
  | ⟨0, _⟩ => show win0_3.index t (0 : Fin 2) * 24 + 1 * (j 0).val = (j 0).val; omega
  | ⟨1, _⟩ => show win0_3.index t (1 : Fin 2) * 512 + 1 * (j 1).val = t.val * 512 + (j 1).val; omega

theorem emb4 (t : Fin cfg0.N) (j : S24x512.Idx) :
    ((cfg0.win 4).blk t).view.emb j = ix2 (n0 := 24) (n1 := 16896) (j 0) (col t (j 1)) := by
  obtain ⟨-, -, -, -, -, -, -, -, h0, h1⟩ := idx_facts t
  funext a; apply Fin.ext
  match a with
  | ⟨0, _⟩ => show win0_4.index t (0 : Fin 2) * 24 + 1 * (j 0).val = (j 0).val; omega
  | ⟨1, _⟩ => show win0_4.index t (1 : Fin 2) * 512 + 1 * (j 1).val = t.val * 512 + (j 1).val; omega

/-- What point `t` writes back is its block of the layer of the whole arrays. -/
theorem flushed_eq (c : Dev nD) (t : Fin cfg0.N) :
    (dats m 0 c).flushed 4 t = ((cfg0.win 4).blk t).view.read (Elt Ideal)
      (layer2 (V m c main_v0) (V m c main_arg1) (V m c main_v1) (V m c main_v2)) := by
  show (cfg0.win 4).cut (grid0.coords t) ((dats m 0 c).after 4 t) = _
  rw [after0_4]
  funext j
  show out0_4 (iblk m c 0 t) (iblk m c 1 t) (iblk m c 2 t) (iblk m c 3 t) j
    = layer2 _ _ _ _ (((cfg0.win 4).blk t).view.emb j)
  rw [emb4, out_apply]
  unfold layer2
  refine congrArg₂ (fun a b : EReal => a + b) ?_ ?_
  · refine Finset.sum_congr rfl fun k _ => ?_
    refine congrArg₂ (fun a b : EReal => a * b) ?_ (congrArg₂ (fun a b : EReal => a * b) ?_ ?_)
    · show V m c main_v0 (((cfg0.win 0).blk t).view.emb _) = _
      rw [emb0]; rfl
    · show FloatOps.sitofp (F := Ideal) .bf16 (V m c main_arg1 (((cfg0.win 1).blk t).view.emb _)) = _
      rw [emb1]; rfl
    · show V m c main_v1 (((cfg0.win 2).blk t).view.emb _) = _
      rw [emb2]; rfl
  · show V m c main_v2 (((cfg0.win 3).blk t).view.emb j) = _
    rw [emb3]

/-- Every index of the result lies in the block of some point. -/
theorem covered (i : S24x16896.Idx) :
    ∃ t : Fin cfg0.N, (cfg0.win 4).flush t = true ∧ i ∈ ((cfg0.win 4).blk t).view.set := by
  have hi : (i 1).val < 16896 := (i 1).isLt
  let t : Fin cfg0.N := ⟨(i 1).val / 512, by rw [N_eq]; omega⟩
  let j : S24x512.Idx := ix2 (n0 := 24) (n1 := 512) (i 0) ⟨(i 1).val % 512, Nat.mod_lt _ (by decide)⟩
  refine ⟨t, (by decide +kernel : ∀ t : Fin grid0.N, win0_4.flush t = true) t, ?_⟩
  have h := ((cfg0.win 4).blk t).view.emb_mem_set j
  rw [emb4] at h
  have e : i = ix2 (n0 := 24) (n1 := 16896) (j 0) (col t (j 1)) := by
    funext a
    match a with
    | ⟨0, _⟩ => rfl
    | ⟨1, _⟩ => apply Fin.ext; show (i 1).val = (i 1).val / 512 * 512 + (i 1).val % 512; omega
  rw [e]; exact h

/-- The array after the region: the layer of the arrays as the region finds them. -/
theorem final (c : Dev nD) : (dats m 0 c).arrAt 4 cfg0.N
    = layer2 (V m c main_v0) (V m c main_arg1) (V m c main_v1) (V m c main_v2) :=
  (dats m 0 c).arrAt_eq_of_cover 4 _ (fun t _ => flushed_eq m c t) covered

/-- The arrays as the region finds them are the arguments, reshaped. -/
theorem entry (c : Dev nD) :
    layer2 (V m c main_v0) (V m c main_arg1) (V m c main_v1) (V m c main_v2)
    = layer2 (shapeCast S24x7552 (m ((c : Thread nD τ).loc main_arg0)) shapeCasts_S24x1x7552_S24x7552)
        (m ((c : Thread nD τ).loc main_arg1))
        (shapeCast S16896x1 (m ((c : Thread nD τ).loc main_arg2)) shapeCasts_S16896_S16896x1)
        (shapeCast S24x16896 (m ((c : Thread nD τ).loc main_arg3)) shapeCasts_S24x1x16896_S24x16896) := by
  entry_read
  rfl

/-- The returned array is the region's, with the unit axis put back. -/
theorem tail (c : Dev nD) :
    Pipeline.afterTail₀ cfgs (Gen.dats m) 0 (Gen.V0 m) [hostOps1] c main_v4
    = shapeCast S24x1x16896 ((dats m 0 c).arrAt 4 cfg0.N) shapeCasts_S24x16896_S24x1x16896 := by
  unfold Pipeline.afterTail₀
  rw [List.flatten_cons, List.flatten_nil, List.append_nil]
  unfold hostOps1
  after_results
  have h := Pipeline.withArrays_arr spec0 (by decide) c (V0 m c) (fun w => (dats m 0 c).arrAt w cfg0.N) 4
  exact congrArg (fun v => shapeCast S24x1x16896 v shapeCasts_S24x16896_S24x1x16896) h

/-- The layer of the reshaped arguments, with the unit axis put back, is the layer of the arguments. -/
theorem layer2_eq (x : Vec Ideal S24x1x7552 .bf16) (w : Vec Ideal S16896x7552 .i8) (s : Vec Ideal S16896 .f32)
    (r : Vec Ideal S24x1x16896 .bf16) :
    shapeCast S24x1x16896 (layer2 (shapeCast S24x7552 x shapeCasts_S24x1x7552_S24x7552) w
        (shapeCast S16896x1 s shapeCasts_S16896_S16896x1) (shapeCast S24x16896 r shapeCasts_S24x1x16896_S24x16896))
      shapeCasts_S24x16896_S24x1x16896 = layer x w s r := by
  funext i
  pointwise [layer2, layer]
  rw [show i 1 = (0 : Fin 1) from Subsingleton.elim (α := Fin 1) _ _]

/-- The run with its value: the result is the layer of the arguments, and the arguments end unchanged. -/
theorem run : θ_run defs (onTc (τ := τ) (main (F := Ideal))) ⟨m, fun _ => 0, ρ⟩ fun r => ∀ c : Dev nD,
      r.2.mem ((c : Thread nD τ).loc main_v4) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_mono (θ_run_and (run_main m ρ) (unchanged m ρ)) fun r h c =>
    ⟨((h.1 c).2 main_v4 (Pipeline.mem_restRefs_of main_v4 (by decide) (by decide))).trans
      ((tail m c).trans (by rw [final, entry, layer2_eq])), h.2 c⟩

end Cert.Proof.KernelValue

end
-- ==== Proof.ReferenceValue.lean ====
/-
  What the reference computes: its run leaves the layer of its arguments.
-/
module

public import proofs.«01_k».proof.Defs
public import proofs.«01_k».proof.Proof.Layer
public import proofs.«01_k».proof.Proof.Gen.ReferenceIdeal.Value

@[expose] public section

noncomputable section

namespace Cert.Proof.ReferenceValue

open Idealize.ShloMosaic Idealize.SL.Sem Idealize.ShloMosaic.TcCoe
open Cert.ReferenceIdeal

/-- The reference's result is the layer of its arguments. -/
theorem value (x : Vec Ideal S24x1x7552 .bf16) (w : Vec Ideal S16896x7552 .i8) (s : Vec Ideal S16896 .f32)
    (r : Vec Ideal S24x1x16896 .bf16) : Value.G4 (F := Ideal) x w s r = layer x w s r := by
  funext i
  pointwise [Value.G4, Gen.k0_pay1, layer]

end Cert.Proof.ReferenceValue

end
-- ==== Proof.lean ====
/-
  The certificate: the three frames, the idealization without rewrites, and the kernel and the reference computing one function
  of the arguments over the extended reals (Proof/Layer.lean).
-/
module

public import proofs.«01_k».proof.Defs
public import proofs.«01_k».proof.Proof.Gen.Kernel.Frame
public import proofs.«01_k».proof.Proof.KernelValue
public import proofs.«01_k».proof.Proof.ReferenceValue

@[expose] public section

noncomputable section

namespace Cert.Proof

open Idealize.ShloMosaic Idealize.SL.Sem

/-- From equal arguments, kernel and reference end with equal results: both are the layer of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => layer (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), KernelValue.run m g, ?_⟩
  refine θ_run_mono (Cert.ReferenceIdeal.Value.run (F := Ideal) m' g') fun r h c => ?_
  obtain ⟨hv, hk⟩ := h c
  refine ⟨hv.trans ?_, hk⟩
  rw [ReferenceValue.value, (hargs c).1, (hargs c).2.1, (hargs c).2.2.1, (hargs c).2.2.2]

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
